-- ==== Defs.lean ====
def Pre_Kernel (m : (ℓ : Loc Cert.Kernel.nD Cert.Kernel.τ Cert.Kernel.sig) → Buf (Elt Bits) ℓ) : Prop :=
  True

def Pre_Original (m : (ℓ : Loc Cert.Original.nD Cert.Original.τ Cert.Original.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Original [hOriginal : Cert.Original.Facts] : Prop :=
  ∀ (m : (ℓ : Loc Cert.Original.nD Cert.Original.τ Cert.Original.sig) → Buf (Elt Bits) ℓ) (g : Dev Cert.Original.nD → PrngReg), Pre_Original m →
    θ_run (Cert.Original.defs (F := Bits)) (onTc (τ := Cert.Original.τ) (Cert.Original.main (F := Bits))) ⟨m, fun _ => 0, g⟩ (fun r => (∀ c : Dev Cert.Original.nD,
      r.2.mem ((c.tc : Thread Cert.Original.nD Cert.Original.τ).loc Cert.Original.main_arg0) = m ((c.tc : Thread Cert.Original.nD Cert.Original.τ).loc Cert.Original.main_arg0)
      ∧ r.2.mem ((c.tc : Thread Cert.Original.nD Cert.Original.τ).loc Cert.Original.main_arg1) = m ((c.tc : Thread Cert.Original.nD Cert.Original.τ).loc Cert.Original.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hOriginal : Cert.Original.Facts) (hKernelIdeal : Cert.KernelIdeal.Facts) (hReferenceIdeal : Cert.ReferenceIdeal.Facts) (hPre_finite : Cert.Pre_finite.Facts),
    quiescent_Kernel (hKernel := hKernel)
    ∧ quiescent_Original (hOriginal := hOriginal)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x512x512 : Shape := ⟨3, ![32, 512, 512]⟩
abbrev S32x512x512x1 : Shape := ⟨4, ![32, 512, 512, 1]⟩
abbrev S_ : Shape := ⟨0, ![]⟩

class Facts : Prop where
  bcast_S_S32x512x512x1 : S_.BroadcastsInDim S32x512x512x1 (![] : Fin 0 → Fin S32x512x512x1.rank)
  bcast_S32x512x512_S32x512x512x1_0_1_2 : S32x512x512.BroadcastsInDim S32x512x512x1 (![0, 1, 2] : Fin 3 → Fin S32x512x512x1.rank)
  reducesTo_S32x512x512x1_S_d0_1_2_3 : S32x512x512x1.ReducesTo [0, 1, 2, 3] S_
  h_S_ : 0 < S_.numel

variable [Facts]

def fn {F : FTy → Type} [FloatOps F] (main_arg0 : IVec S32x512x512 1) (main_arg1 : FVec F S32x512x512x1 .f32) : IVec S_ 1 :=
  let main_cst : FVec F S_ .f32 := constant S_ .f32 0x7F7FFFFF#32
  let main_v0 : FVec F S32x512x512x1 .f32 := broadcastInDim S32x512x512x1 ![] bcast_S_S32x512x512x1 main_cst
  let main_v1 : IVec S32x512x512x1 1 := cmpf .ole main_arg1 main_v0
  let main_v2 : IVec S32x512x512x1 1 := broadcastInDim S32x512x512x1 ![0, 1, 2] bcast_S32x512x512_S32x512x512x1_0_1_2 main_arg0
  let main_v3 : IVec S32x512x512x1 1 := noti main_v2
  let main_v4 : IVec S32x512x512x1 1 := ori main_v1 main_v3
  let main_c : IVec S_ 1 := constantI S_ 1 1#1
  let main_v5 : IVec S_ 1 := (fun x v => Host.reduce IntOp.andi x v reducesTo_S32x512x512x1_S_d0_1_2_3 h_S_) main_v4 main_c
  main_v5
-- ==== Kernel.lean ====
abbrev S32x512x512 : Shape := ⟨3, ![32, 512, 512]⟩
abbrev S32x512x512x1 : Shape := ⟨4, ![32, 512, 512, 1]⟩
abbrev S32x1x1 : Shape := ⟨3, ![32, 1, 1]⟩
abbrev S1x512x512 : Shape := ⟨3, ![1, 512, 512]⟩
abbrev S1x1x1 : Shape := ⟨3, ![1, 1, 1]⟩
abbrev S512x512 : Shape := ⟨2, ![512, 512]⟩
abbrev S1 : Shape := ⟨1, ![1]⟩
abbrev S16x32x512 : Shape := ⟨3, ![16, 32, 512]⟩
abbrev S16x16x512 : Shape := ⟨3, ![16, 16, 512]⟩
abbrev S16x8x512 : Shape := ⟨3, ![16, 8, 512]⟩
abbrev S16x4x512 : Shape := ⟨3, ![16, 4, 512]⟩
abbrev S16x2x512 : Shape := ⟨3, ![16, 2, 512]⟩
abbrev S16x1x512 : Shape := ⟨3, ![16, 1, 512]⟩
abbrev S16x512 : Shape := ⟨2, ![16, 512]⟩
abbrev S1x16x512 : Shape := ⟨3, ![1, 16, 512]⟩
abbrev S32 : Shape := ⟨1, ![32]⟩

abbrev nBuf : Space → Nat
  | .hbm => 6
  | .vmem => 4
  | .smem => 2
  | _ => 0

abbrev bufTy : (tb : Table) → Fin (tcTables nBuf tb) → BufTy
  | .hbm, ⟨0, _⟩ => ⟨S32x512x512, .i1⟩
  | .hbm, ⟨1, _⟩ => ⟨S32x512x512x1, .f32⟩
  | .hbm, ⟨2, _⟩ => ⟨S32x512x512, .f32⟩
  | .hbm, ⟨3, _⟩ => ⟨S32x512x512, .i32⟩
  | .hbm, ⟨4, _⟩ => ⟨S32x1x1, .f32⟩
  | .hbm, ⟨5, _⟩ => ⟨S32, .f32⟩
  | .local _ .vmem, ⟨0, _⟩ => ⟨S1x512x512, .i32⟩
  | .local _ .vmem, ⟨1, _⟩ => ⟨S1x512x512, .i32⟩
  | .local _ .vmem, ⟨2, _⟩ => ⟨S1x512x512, .f32⟩
  | .local _ .vmem, ⟨3, _⟩ => ⟨S1x512x512, .f32⟩
  | .local _ .smem, ⟨0, _⟩ => ⟨S1x1x1, .f32⟩
  | .local _ .smem, ⟨1, _⟩ => ⟨S1x1x1, .f32⟩
  | _, _ => ⟨S32x512x512, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Original.lean ====
abbrev S32x512x512 : Shape := ⟨3, ![32, 512, 512]⟩
abbrev S32x512x512x1 : Shape := ⟨4, ![32, 512, 512, 1]⟩
abbrev S32x1x1 : Shape := ⟨3, ![32, 1, 1]⟩
abbrev S1x512x512 : Shape := ⟨3, ![1, 512, 512]⟩
abbrev S1x1x1 : Shape := ⟨3, ![1, 1, 1]⟩
abbrev S512x512 : Shape := ⟨2, ![512, 512]⟩
abbrev S1 : Shape := ⟨1, ![1]⟩
abbrev S16x32x512 : Shape := ⟨3, ![16, 32, 512]⟩
abbrev S16x16x512 : Shape := ⟨3, ![16, 16, 512]⟩
abbrev S16x8x512 : Shape := ⟨3, ![16, 8, 512]⟩
abbrev S16x4x512 : Shape := ⟨3, ![16, 4, 512]⟩
abbrev S16x2x512 : Shape := ⟨3, ![16, 2, 512]⟩
abbrev S16x1x512 : Shape := ⟨3, ![16, 1, 512]⟩
abbrev S16x512 : Shape := ⟨2, ![16, 512]⟩
abbrev S1x16x512 : Shape := ⟨3, ![1, 16, 512]⟩
abbrev S32 : Shape := ⟨1, ![32]⟩

abbrev nBuf : Space → Nat
  | .hbm => 6
  | .vmem => 4
  | .smem => 2
  | _ => 0

abbrev bufTy : (tb : Table) → Fin (tcTables nBuf tb) → BufTy
  | .hbm, ⟨0, _⟩ => ⟨S32x512x512, .i1⟩
  | .hbm, ⟨1, _⟩ => ⟨S32x512x512x1, .f32⟩
  | .hbm, ⟨2, _⟩ => ⟨S32x512x512, .f32⟩
  | .hbm, ⟨3, _⟩ => ⟨S32x512x512, .i32⟩
  | .hbm, ⟨4, _⟩ => ⟨S32x1x1, .f32⟩
  | .hbm, ⟨5, _⟩ => ⟨S32, .f32⟩
  | .local _ .vmem, ⟨0, _⟩ => ⟨S1x512x512, .i32⟩
  | .local _ .vmem, ⟨1, _⟩ => ⟨S1x512x512, .i32⟩
  | .local _ .vmem, ⟨2, _⟩ => ⟨S1x512x512, .f32⟩
  | .local _ .vmem, ⟨3, _⟩ => ⟨S1x512x512, .f32⟩
  | .local _ .smem, ⟨0, _⟩ => ⟨S1x1x1, .f32⟩
  | .local _ .smem, ⟨1, _⟩ => ⟨S1x1x1, .f32⟩
  | _, _ => ⟨S32x512x512, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S32x512x512 : Shape := ⟨3, ![32, 512, 512]⟩
abbrev S32x512x512x1 : Shape := ⟨4, ![32, 512, 512, 1]⟩
abbrev S_ : Shape := ⟨0, ![]⟩
abbrev S32 : Shape := ⟨1, ![32]⟩

abbrev nBuf : Space → Nat
  | .hbm => 15
  | .vmem => 0
  | .smem => 0
  | _ => 0

abbrev bufTy : (tb : Table) → Fin (tcTables nBuf tb) → BufTy
  | .hbm, ⟨0, _⟩ => ⟨S32x512x512, .i1⟩
  | .hbm, ⟨1, _⟩ => ⟨S32x512x512x1, .f32⟩
  | .hbm, ⟨2, _⟩ => ⟨S32x512x512x1, .i1⟩
  | .hbm, ⟨3, _⟩ => ⟨S32x512x512x1, .f32⟩
  | .hbm, ⟨4, _⟩ => ⟨S_, .f32⟩
  | .hbm, ⟨5, _⟩ => ⟨S_, .f32⟩
  | .hbm, ⟨6, _⟩ => ⟨S32x512x512x1, .f32⟩
  | .hbm, ⟨7, _⟩ => ⟨S32x512x512x1, .f32⟩
  | .hbm, ⟨8, _⟩ => ⟨S32x512x512x1, .f32⟩
  | .hbm, ⟨9, _⟩ => ⟨S_, .f32⟩
  | .hbm, ⟨10, _⟩ => ⟨S_, .f32⟩
  | .hbm, ⟨11, _⟩ => ⟨S32x512x512x1, .f32⟩
  | .hbm, ⟨12, _⟩ => ⟨S32x512x512x1, .f32⟩
  | .hbm, ⟨13, _⟩ => ⟨S_, .f32⟩
  | .hbm, ⟨14, _⟩ => ⟨S32, .f32⟩
  | _, _ => ⟨S32x512x512, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Proof.Value.Element.lean ====
/-
  One element. `loss b p` is what the reference adds up at one position: the clamped negative logarithm of the
  confidence `p` where the indicator bit `b` is set, and zero elsewhere. `scaled b p` is what the kernel holds there
  instead: `p · 2^64`, raised to `e^-100 · 2^64` where it is smaller, and `2^64` where the bit is not set. The lemma of
  this file, `element`, says that for a confidence of at most the greatest finite float32 (of any size where the bit is
  not set) the scaled value is a positive real whose logarithm is `64 · log 2` less the loss, and that the loss lies in
  `[-128, 100]`.
-/
module

public import Idealize.ShloMosaic.PureOps.Ideal.Laws
public import Idealize.ShloMosaic.Lib.ValueIdx
public import Mathlib.Analysis.SpecialFunctions.Log.Basic

@[expose] public section

noncomputable section

namespace Cert.Proof

open Idealize.ShloMosaic

/-! ## The constants that the two programs spell as float32 words -/

/-- The word of the clamp, minus one hundred. -/
theorem word_clamp : Ideal.ofBits .f32 0xC2C80000#32 = ((-100 : ℝ) : EReal) := by
  simp [Ideal.ofBits, Ideal.ieee, -EReal.coe_mul, -EReal.coe_neg]; norm_num

/-- The word of the scale, two to the sixty-fourth. -/
theorem word_scale : Ideal.ofBits .f32 0x5F800000#32 = ((2 ^ 64 : ℝ) : EReal) := by
  simp [Ideal.ofBits, Ideal.ieee, -EReal.coe_mul, -EReal.coe_pow]; norm_num

/-- The word of the exponent's bias, one hundred and twenty-seven. -/
theorem word_bias : Ideal.ofBits .f32 0x42FE0000#32 = ((127 : ℝ) : EReal) := by
  simp [Ideal.ofBits, Ideal.ieee, -EReal.coe_mul]; norm_num

/-- The word of the greatest finite float32 is below two to the one hundred and twenty-eighth. -/
theorem word_greatest : Ideal.ofBits .f32 0x7F7FFFFF#32 ≤ ((2 ^ 128 : ℝ) : EReal) := by
  have h : Ideal.ofBits .f32 0x7F7FFFFF#32 = (((2 ^ 24 - 1) * 2 ^ 104 : ℝ) : EReal) := by
    simp [Ideal.ofBits, Ideal.ieee, -EReal.coe_mul, -EReal.coe_pow]; norm_num
  rw [h]
  exact EReal.coe_le_coe_iff.2 (by norm_num)

/-! ## The two readings of one element -/

/-- The reference's summand: the clamped negative logarithm where the bit is set, zero elsewhere. -/
def loss (b : BitVec 1) (p : EReal) : EReal :=
  Scalar.select b (-(max (Ideal.ofBits .f32 0xC2C80000#32) (Ideal.log p))) (Ideal.ofBits .f32 0x00000000#32)

/-- The least value that the kernel keeps, `e^-100 · 2^64`. -/
def least : EReal := Ideal.exp (Ideal.ofBits .f32 0xC2C80000#32) * Ideal.ofBits .f32 0x5F800000#32

/-- The kernel's value: the scaled confidence, not below `least`, where the bit is set, and the scale elsewhere. -/
def scaled (b : BitVec 1) (p : EReal) : EReal :=
  Scalar.select b
    (Scalar.select (Ideal.cmp .olt (p * Ideal.ofBits .f32 0x5F800000#32) least) least (p * Ideal.ofBits .f32 0x5F800000#32))
    (Ideal.ofBits .f32 0x5F800000#32)

/-- `least` is a real number. -/
theorem least_eq : least = ((Real.exp (-100) * 2 ^ 64 : ℝ) : EReal) := by
  unfold least
  rw [word_clamp, word_scale, Ideal.exp_coe, ← EReal.coe_mul]

/-- The logarithm of two lies between one half and one. -/
theorem log_two_bounds : (1 / 2 : ℝ) ≤ Real.log 2 ∧ Real.log 2 ≤ 1 :=
  ⟨by have := Real.one_sub_inv_le_log_of_pos (show (0 : ℝ) < 2 by norm_num); norm_num at this ⊢; linarith,
    by have := Real.log_le_sub_one_of_pos (show (0 : ℝ) < 2 by norm_num); linarith⟩

/-- The logarithm of a positive real times the scale. -/
theorem log_scaled (r : ℝ) (hr : 0 < r) : Real.log (r * 2 ^ 64) = 64 * Real.log 2 + Real.log r := by
  rw [Real.log_mul hr.ne' (by norm_num), Real.log_pow]; push_cast; ring

/-- What `element` says of a pair of readings: `l` the loss and `v` the scaled value. -/
structure Agree (l v : ℝ) : Prop where
  pos : 0 < v
  log_eq : Real.log v = 64 * Real.log 2 - l
  low : -128 ≤ l
  high : l ≤ 100

/-- A confidence that is raised to the least value: its loss is one hundred. -/
theorem agree_least : Agree 100 (Real.exp (-100) * 2 ^ 64) where
  pos := by positivity
  log_eq := by rw [log_scaled _ (Real.exp_pos _), Real.log_exp]; ring
  low := by norm_num
  high := le_rfl

/-- A confidence that is kept: its loss is its negative logarithm. -/
theorem agree_kept (r : ℝ) (hlo : Real.exp (-100) ≤ r) (hhi : r ≤ 2 ^ 128) : Agree (-Real.log r) (r * 2 ^ 64) := by
  have hr : 0 < r := (Real.exp_pos _).trans_le hlo
  refine ⟨by positivity, by rw [log_scaled r hr]; ring, ?_, ?_⟩
  · have h := Real.log_le_log hr hhi
    rw [Real.log_pow] at h
    push_cast at h
    have := log_two_bounds.2
    linarith
  · have h := (Real.le_log_iff_exp_le hr).2 hlo
    linarith

/-- An unset position: its loss is zero and the kernel's value is the scale. -/
theorem agree_unset : Agree 0 (2 ^ 64) where
  pos := by positivity
  log_eq := by rw [Real.log_pow]; push_cast; ring
  low := by norm_num
  high := by norm_num

/-- The loss at an unset bit. -/
theorem loss_unset (p : EReal) : loss 0#1 p = ((0 : ℝ) : EReal) := by
  simp [loss, Scalar.select]

/-- The loss at a set bit. -/
theorem loss_set (p : EReal) : loss 1#1 p = -(max ((-100 : ℝ) : EReal) (Ideal.log p)) := by
  rw [← word_clamp]; rfl

/-- The scaled value at an unset bit. -/
theorem scaled_unset (p : EReal) : scaled 0#1 p = ((2 ^ 64 : ℝ) : EReal) := by
  rw [← word_scale]; rfl

/-- The scaled value at a set bit. -/
theorem scaled_set (p : EReal) :
    scaled 1#1 p = if p * ((2 ^ 64 : ℝ) : EReal) < ((Real.exp (-100) * 2 ^ 64 : ℝ) : EReal)
      then ((Real.exp (-100) * 2 ^ 64 : ℝ) : EReal) else p * ((2 ^ 64 : ℝ) : EReal) := by
  rw [← least_eq, ← word_scale]
  show Scalar.select (Ideal.cmp .olt _ _) _ _ = _
  unfold Scalar.select Ideal.cmp
  by_cases h : p * Ideal.ofBits .f32 0x5F800000#32 < least <;> simp [h]

/-- A set bit at a confidence that is a real number. -/
theorem element_real (r : ℝ) (hhi : r ≤ 2 ^ 128) :
    ∃ l v : ℝ, loss 1#1 (r : EReal) = (l : EReal) ∧ scaled 1#1 (r : EReal) = (v : EReal) ∧ Agree l v := by
  rw [loss_set, scaled_set, ← EReal.coe_mul]
  by_cases h : r < Real.exp (-100)
  · refine ⟨100, Real.exp (-100) * 2 ^ 64, ?_, ?_, agree_least⟩
    · have hmax : max ((-100 : ℝ) : EReal) (Ideal.log (r : EReal)) = ((-100 : ℝ) : EReal) := by
        refine max_eq_left ?_
        rw [Ideal.log_coe]
        split
        · exact bot_le
        · exact EReal.coe_le_coe_iff.2 ((Real.log_le_iff_le_exp (by linarith)).2 h.le)
      rw [hmax, ← EReal.coe_neg]; norm_num
    · rw [if_pos (EReal.coe_lt_coe_iff.2 (mul_lt_mul_of_pos_right h (by positivity)))]
  · rw [not_lt] at h
    have hr : 0 < r := (Real.exp_pos _).trans_le h
    refine ⟨-Real.log r, r * 2 ^ 64, ?_, ?_, agree_kept r h hhi⟩
    · have hmax : max ((-100 : ℝ) : EReal) (Ideal.log (r : EReal)) = ((Real.log r : ℝ) : EReal) := by
        rw [Ideal.log_coe, if_neg (not_le.2 hr)]
        exact max_eq_right (EReal.coe_le_coe_iff.2 ((Real.le_log_iff_exp_le hr).2 h))
      rw [hmax, ← EReal.coe_neg]
    · rw [if_neg (not_lt.2 (EReal.coe_le_coe_iff.2 (mul_le_mul_of_nonneg_right h (by positivity))))]

/-- ONE ELEMENT: where the bit is not set or the confidence is at most the greatest finite float32, the loss and the scaled
    value are reals that agree. -/
theorem element (b : BitVec 1) (p : EReal) (hp : b = 1#1 → p ≤ Ideal.ofBits .f32 0x7F7FFFFF#32) :
    ∃ l v : ℝ, loss b p = (l : EReal) ∧ scaled b p = (v : EReal) ∧ Agree l v := by
  rcases (by decide : ∀ b : BitVec 1, b = 0#1 ∨ b = 1#1) b with rfl | rfl
  · exact ⟨0, 2 ^ 64, loss_unset p, scaled_unset p, agree_unset⟩
  · have hp' := (hp rfl).trans word_greatest
    induction p with
    | bot =>
      refine ⟨100, Real.exp (-100) * 2 ^ 64, ?_, ?_, agree_least⟩
      · rw [loss_set, Ideal.log_bot, max_eq_left bot_le, ← EReal.coe_neg]; norm_num
      · rw [scaled_set, EReal.bot_mul_coe_of_pos (by positivity), if_pos (EReal.bot_lt_coe _)]
    | coe r => exact element_real r (EReal.coe_le_coe_iff.1 hp')
    | top => exact absurd hp' (not_le.2 (EReal.coe_lt_top _))

end Cert.Proof

end
-- ==== Proof.Value.Split.lean ====
/-
  The exponent and the mantissa of one scaled value. The kernel takes `e`, the integer part of the base-two logarithm of
  the value, holds `e + 127` as a 32-bit word, and multiplies the value by two to the power `127 - (e + 127)`. The lemmas
  here give the word, bound it, and say that the product is a positive real whose logarithm is the value's logarithm less
  `e · log 2`.
-/
module

public import proofs.«01_k».proof.Proof.Value.Element

@[expose] public section

noncomputable section

namespace Cert.Proof

open Idealize.ShloMosaic

/-- The exponent of a positive real: the integer part of its base-two logarithm. -/
def expo (v : ℝ) : ℤ := ⌊Real.log v * (Real.log 2)⁻¹⌋

/-- The mantissa of a positive real: the real over two to the power of its exponent. -/
def mant (v : ℝ) : ℝ := v * Real.rpow 2 ((-expo v : ℤ) : ℝ)

/-- The exponent of a scaled value is small. -/
theorem Agree.expo_bounds {l v : ℝ} (h : Agree l v) : -200 ≤ expo v ∧ expo v ≤ 400 := by
  obtain ⟨h2, h2'⟩ := log_two_bounds
  have hpos : 0 < Real.log 2 := by linarith
  have hlo := h.low
  have hhi := h.high
  unfold expo
  rw [h.log_eq, ← div_eq_mul_inv]
  constructor
  · rw [Int.le_floor, le_div_iff₀ hpos]; push_cast; linarith
  · refine Int.floor_le_iff.2 ?_
    rw [div_lt_iff₀ hpos]; push_cast; linarith

/-- The mantissa is positive. -/
theorem Agree.mant_pos {l v : ℝ} (h : Agree l v) : 0 < mant v :=
  mul_pos h.pos (Real.rpow_pos_of_pos (by norm_num) _)

/-- The logarithm of the mantissa. -/
theorem Agree.log_mant {l v : ℝ} (h : Agree l v) : Real.log (mant v) = Real.log v - expo v * Real.log 2 := by
  have hp : 0 < Real.rpow 2 ((-expo v : ℤ) : ℝ) := Real.rpow_pos_of_pos (by norm_num) _
  unfold mant
  rw [Real.log_mul h.pos.ne' hp.ne', show Real.rpow 2 ((-expo v : ℤ) : ℝ) = (2 : ℝ) ^ ((-expo v : ℤ) : ℝ) from rfl,
    Real.log_rpow (by norm_num)]
  push_cast
  ring

/-- The loss from the exponent and the mantissa. -/
theorem Agree.loss_eq {l v : ℝ} (h : Agree l v) :
    l = -(Real.log 2 * (expo v - 64) + Real.log (mant v)) := by
  rw [h.log_mant, h.log_eq]; ring

/-- A real integer of at most a thousand in size, converted to a 32-bit word, is that integer's word. -/
theorem fptosi_int (n : ℤ) (h : -1000 ≤ n ∧ n ≤ 1000) : Ideal.fptosi 32 ((n : ℝ) : EReal) = BitVec.ofInt 32 n := by
  unfold Ideal.fptosi
  rw [Ideal.toIntClamped_coe, Int.floor_intCast, Int.ceil_intCast, ite_self]
  congr 1
  norm_num
  omega

/-- The word of an exponent: the kernel's conversion of the rounded logarithm plus the bias. -/
theorem Agree.word {l v : ℝ} (h : Agree l v) :
    Ideal.fptosi 32 (Ideal.liftRound Int.floor (Ideal.log (v : EReal) * (((Real.log 2)⁻¹ : ℝ) : EReal))
      + Ideal.ofBits .f32 0x42FE0000#32) = BitVec.ofInt 32 (expo v + 127) := by
  have hb := h.expo_bounds
  rw [Ideal.log_coe, if_neg (not_le.2 h.pos), ← EReal.coe_mul, Ideal.liftRound_coe, word_bias, ← EReal.coe_add,
    ← fptosi_int (expo v + 127) (by omega)]
  push_cast
  rfl

/-- The bias less the word of an exponent is the exponent's negative, as a signed integer. -/
theorem Agree.word_sub {l v : ℝ} (h : Agree l v) :
    (127#32 - BitVec.ofInt 32 (expo v + 127)).toInt = -expo v := by
  have hb := h.expo_bounds
  have hw : (BitVec.ofInt 32 (expo v + 127)).toInt = expo v + 127 := by
    rw [BitVec.toInt_ofInt]
    exact Int.bmod_eq_of_le (by norm_num; omega) (by norm_num; omega)
  rw [BitVec.toInt_sub, hw, show (127#32 : BitVec 32).toInt = 127 from rfl,
    show (127 : ℤ) - (expo v + 127) = -expo v by ring]
  exact Int.bmod_eq_of_le (by norm_num; omega) (by norm_num; omega)

/-- The kernel's mantissa: the value times two to the power of the converted difference. -/
theorem Agree.mantissa {l v : ℝ} (h : Agree l v) :
    (v : EReal) * Ideal.exp2 (((127#32 - BitVec.ofInt 32 (expo v + 127)).toInt : ℝ) : EReal) = ((mant v : ℝ) : EReal) := by
  rw [h.word_sub, Ideal.exp2_coe, ← EReal.coe_mul]
  rfl

end Cert.Proof

end
-- ==== Proof.Value.BitReads.lean ====
/-
  What v01's own bit reads are. For every word of a positive normal float32, the word shifted right by 23 is the exponent
  that the kernel computes by a logarithm (`exponent_read`), and the word with its exponent field overwritten by 127 is the
  mantissa that the kernel computes by a product (`mantissa_read`): the two replacements are equal to what they replace.
-/
module

public import proofs.«01_k».proof.Proof.Value.Split

@[expose] public section

noncomputable section

namespace Cert.Proof

open Idealize.ShloMosaic

/-- A word of a positive normal float32: its sign is clear and its exponent field is neither zero nor all ones. -/
structure Normal (w : BitVec 32) : Prop where
  low : 2 ^ 23 ≤ w.toNat
  high : w.toNat < 255 * 2 ^ 23

/-- The real that a positive normal word denotes. -/
def valueOf (w : BitVec 32) : ℝ := ((2 ^ 23 + w.toNat % 2 ^ 23 : ℕ) : ℝ) * (2 : ℝ) ^ (((w.toNat / 2 ^ 23 : ℕ) : ℤ) - 150)

/-- It is the word's reading. -/
theorem Normal.value {w : BitVec 32} (h : Normal w) : Ideal.ofBits .f32 w = ((valueOf w : ℝ) : EReal) := by
  have hl := h.low
  have hh := h.high
  have hs : (w.extractLsb' 31 1).toNat = 0 := by
    rw [BitVec.extractLsb'_toNat, Nat.shiftRight_eq_div_pow]; omega
  have hs' : ¬ w.extractLsb' 31 1 = 1#1 := fun e => by rw [e] at hs; exact absurd hs (by decide)
  have he : (w.extractLsb' 23 8).toNat = w.toNat / 2 ^ 23 := by
    rw [BitVec.extractLsb'_toNat, Nat.shiftRight_eq_div_pow]; omega
  have hf : (w.extractLsb' 0 23).toNat = w.toNat % 2 ^ 23 := by
    rw [BitVec.extractLsb'_toNat, Nat.shiftRight_eq_div_pow]; omega
  show Ideal.ieee 8 23 w = _
  unfold Ideal.ieee valueOf
  simp only [Nat.reduceAdd, hs', he, hf]
  rw [if_neg (by omega), if_neg (by omega)]
  congr 1
  norm_num
  rw [if_neg hs', sub_sub]
  norm_num

/-- A real between two neighbouring powers of two has the lower one's exponent. -/
theorem expo_of_bounds (v : ℝ) (k : ℤ) (hlo : (2 : ℝ) ^ k ≤ v) (hhi : v < (2 : ℝ) ^ (k + 1)) : expo v = k := by
  have h2 : 0 < Real.log 2 := by linarith [log_two_bounds.1]
  have hk : (0 : ℝ) < 2 ^ k := by positivity
  have h1 := Real.log_le_log hk hlo
  have h3 := Real.log_lt_log (hk.trans_le hlo) hhi
  rw [Real.log_zpow] at h1 h3
  unfold expo
  rw [← div_eq_mul_inv, Int.floor_eq_iff]
  exact ⟨(le_div_iff₀ h2).2 h1, (div_lt_iff₀ h2).2 (by push_cast at h3; exact h3)⟩

/-- The exponent of a positive normal word's value is its exponent field less the bias. -/
theorem Normal.expo_value (w : BitVec 32) : expo (valueOf w) = ((w.toNat / 2 ^ 23 : ℕ) : ℤ) - 127 := by
  have hm : w.toNat % 2 ^ 23 < 2 ^ 23 := Nat.mod_lt _ (by norm_num)
  set e : ℤ := ((w.toNat / 2 ^ 23 : ℕ) : ℤ) with he
  have hp : (0 : ℝ) < 2 ^ (e - 150) := by positivity
  have hz : ∀ j : ℕ, (2 : ℝ) ^ (e - 150 + j) = (2 : ℝ) ^ j * 2 ^ (e - 150) := fun j => by
    rw [zpow_add₀ (by norm_num), zpow_natCast, mul_comm]
  apply expo_of_bounds
  · rw [show e - 127 = e - 150 + (23 : ℕ) by push_cast; ring, hz]
    refine mul_le_mul_of_nonneg_right ?_ hp.le
    exact_mod_cast Nat.le_add_right (2 ^ 23) (w.toNat % 2 ^ 23)
  · rw [show e - 127 + 1 = e - 150 + (24 : ℕ) by push_cast; ring, hz]
    refine mul_lt_mul_of_pos_right ?_ hp
    exact_mod_cast (by omega : 2 ^ 23 + w.toNat % 2 ^ 23 < 2 ^ 24)

/-- The mantissa of a positive normal word's value is its significand over two to the twenty-third. -/
theorem Normal.mant_value (w : BitVec 32) : mant (valueOf w) = ((2 ^ 23 + w.toNat % 2 ^ 23 : ℕ) : ℝ) * (2 : ℝ) ^ (-23 : ℤ) := by
  unfold mant
  rw [Normal.expo_value, show ∀ z : ℤ, Real.rpow 2 ((z : ℤ) : ℝ) = (2 : ℝ) ^ z from fun z => Real.rpow_intCast 2 z]
  unfold valueOf
  rw [mul_assoc, ← zpow_add₀ (by norm_num)]
  congr 2
  ring

/-- THE EXPONENT READ: the word shifted right by 23 is the word of the exponent plus the bias. -/
theorem exponent_read (w : BitVec 32) (h : Normal w) : w.sshiftRight 23 = BitVec.ofInt 32 (expo (valueOf w) + 127) := by
  have hh := h.high
  have hmsb : w.msb = false := by rw [BitVec.msb_eq_false_iff_two_mul_lt]; omega
  rw [Normal.expo_value, BitVec.sshiftRight_eq_of_msb_false hmsb, sub_add_cancel]
  apply BitVec.eq_of_toNat_eq
  rw [BitVec.toNat_ushiftRight, Nat.shiftRight_eq_div_pow, BitVec.ofInt_natCast, BitVec.toNat_ofNat, Nat.mod_eq_of_lt (by omega)]

/-- THE MANTISSA READ: the word with its exponent field overwritten by the bias denotes the mantissa. -/
theorem mantissa_read (w : BitVec 32) :
    Ideal.ofBits .f32 ((w &&& 0x7FFFFF#32) ||| 0x3F800000#32) = ((mant (valueOf w) : ℝ) : EReal) := by
  have hm : w.toNat % 2 ^ 23 < 2 ^ 23 := Nat.mod_lt _ (by norm_num)
  have hn : ((w &&& 0x7FFFFF#32) ||| 0x3F800000#32).toNat = 2 ^ 23 * 127 + w.toNat % 2 ^ 23 := by
    rw [BitVec.toNat_or, BitVec.toNat_and, Nat.two_pow_add_eq_or_of_lt hm, Nat.or_comm,
      show (0x7FFFFF#32 : BitVec 32).toNat = 2 ^ 23 - 1 from rfl, Nat.and_two_pow_sub_one_eq_mod]
    rfl
  have hN : Normal ((w &&& 0x7FFFFF#32) ||| 0x3F800000#32) := ⟨by omega, by omega⟩
  rw [hN.value, Normal.mant_value]
  unfold valueOf
  rw [hn, show (2 ^ 23 * 127 + w.toNat % 2 ^ 23) % 2 ^ 23 = w.toNat % 2 ^ 23 by omega,
    show (2 ^ 23 * 127 + w.toNat % 2 ^ 23) / 2 ^ 23 = 127 by omega]
  norm_num

end Cert.Proof

end
-- ==== Proof.Value.Halve.lean ====
/-
  One halving of the product tree. The kernel multiplies the lower half of the rows of an array of positive reals with the
  upper half. The product array is positive again, and the sum of its logarithms is the sum of the logarithms before.
-/
module

public import Idealize.ShloMosaic.PureOps.Ideal.Laws
public import Idealize.ShloMosaic.Lib.ValueIdx
public import Idealize.ShloMosaic.Lib.Pointwise.Index
public import Mathlib.Analysis.SpecialFunctions.Log.Basic

@[expose] public section

noncomputable section

namespace Cert.Proof

open Idealize.ShloMosaic

/-- An array of extended reals that are all positive reals, with the sum of their logarithms. -/
structure Positive {s : Shape} (x : s.Idx → EReal) (total : ℝ) : Prop where
  ex : ∃ y : s.Idx → ℝ, (∀ i, x i = (y i : EReal)) ∧ (∀ i, 0 < y i) ∧ ∑ i, Real.log (y i) = total

/-- A sum over the rows of both halves is the sum over all rows. -/
theorem sum_halves {a n c : ℕ} (f : Fin a → Fin (n + n) → Fin c → ℝ) :
    ∑ i, ∑ j : Fin n, ∑ k, (f i (Fin.castAdd n j) k + f i (Fin.natAdd n j) k) = ∑ i, ∑ j, ∑ k, f i j k := by
  refine Finset.sum_congr rfl fun i _ => ?_
  rw [Fin.sum_univ_add, ← Finset.sum_add_distrib]
  exact Finset.sum_congr rfl fun j _ => Finset.sum_add_distrib

/-- ONE HALVING keeps the sum of the logarithms. -/
theorem Positive.halve {a n c : ℕ} {x : (⟨3, ![a, n + n, c]⟩ : Shape).Idx → EReal} {total : ℝ} (hx : Positive x total)
    (h0 : (⟨3, ![a, n + n, c]⟩ : Shape).Slices ![0, 0, 0] ⟨3, ![a, n, c]⟩)
    (h1 : (⟨3, ![a, n + n, c]⟩ : Shape).Slices ![0, n, 0] ⟨3, ![a, n, c]⟩) :
    Positive (s := ⟨3, ![a, n, c]⟩)
      (mulf (F := Ideal) (φ := .f32) (extractStridedSlice ⟨3, ![a, n, c]⟩ ![0, 0, 0] x h0)
        (extractStridedSlice ⟨3, ![a, n, c]⟩ ![0, n, 0] x h1)) total := by
  obtain ⟨y, hy, hpos, hsum⟩ := hx.ex
  refine ⟨fun i => extractStridedSlice ⟨3, ![a, n, c]⟩ ![0, 0, 0] y h0 i * extractStridedSlice ⟨3, ![a, n, c]⟩ ![0, n, 0] y h1 i,
    fun i => ?_, fun i => mul_pos (hpos _) (hpos _), ?_⟩
  · rw [ValueIdx.mulf_apply, EReal.coe_mul]
    exact congrArg₂ (· * ·) (hy _) (hy _)
  · rw [← hsum, sum_idx3, sum_idx3, ← sum_halves]
    refine Finset.sum_congr rfl fun i _ => Finset.sum_congr rfl fun j _ => Finset.sum_congr rfl fun k _ => ?_
    refine (Real.log_mul (hpos _).ne' (hpos _).ne').trans ?_
    refine congrArg₂ (fun u w => Real.log (y u) + Real.log (y w)) ?_ ?_ <;>
    · funext b
      match b with
      | ⟨0, _⟩ => exact Fin.ext (Nat.zero_add _)
      | ⟨1, _⟩ => exact Fin.ext (by simp [ix3, Nat.add_comm])
      | ⟨2, _⟩ => exact Fin.ext (Nat.zero_add _)

/-- A reshape of an array of positive reals keeps the sum of the logarithms. -/
theorem Positive.reshape {s t : Shape} {x : s.Idx → EReal} {total : ℝ} (hx : Positive x total) (h : s.ShapeCasts t) :
    Positive (shapeCast t x h) total := by
  obtain ⟨y, hy, hpos, hsum⟩ := hx.ex
  exact ⟨fun i => y (Shape.reshapeEquiv h i), fun i => hy _, fun i => hpos _,
    (Equiv.sum_comp (Shape.reshapeEquiv h) fun i => Real.log (y i)).trans hsum⟩

/-- The sum of the logarithms of an array of positive reals, taken at the extended reals. -/
theorem Positive.sum_log {s : Shape} {x : s.Idx → EReal} {total : ℝ} (hx : Positive x total) :
    ∑ i, Ideal.log (x i) = (total : EReal) := by
  obtain ⟨y, hy, hpos, hsum⟩ := hx.ex
  have h : ∀ i, Ideal.log (x i) = ((Real.log (y i) : ℝ) : EReal) := fun i => by
    rw [hy, Ideal.log_coe, if_neg (not_le.2 (hpos i))]
  simp only [h, ← hsum]
  exact (map_sum (⟨⟨(↑), EReal.coe_zero⟩, EReal.coe_add⟩ : ℝ →+ EReal) _ _).symm

end Cert.Proof

end
-- ==== Proof.Value.Block.lean ====
/-
  What the kernel writes at one grid point. From the batch's confidences and its indicator words the body computes one
  number: with `n` positions, the 32-bit sum of the exponent words less `191 · 2^18`, the sum of the logarithms of the
  products of 32 mantissas, and minus `log 2` times the first plus the second. `block` says that this number is the sum
  of the reference's losses over the batch.
-/
module

public import proofs.«01_k».proof.Proof.Value.Split
public import proofs.«01_k».proof.Proof.Value.Halve
public import proofs.«01_k».proof.Proof.Gen.KernelIdeal.Skeleton
public import Idealize.ShloMosaic.Lib.Pipeline.Value
public import Mathlib.Data.BitVec

@[expose] public section

noncomputable section

namespace Cert.Proof

open Cert.KernelIdeal Cert.KernelIdeal.Gen Idealize.ShloMosaic

/-! ## Sums of words -/

/-- A sum of words of integers is the word of the sum. -/
theorem sum_ofInt {ι : Type} (s : Finset ι) (f : ι → ℤ) : ∑ i ∈ s, BitVec.ofInt 32 (f i) = BitVec.ofInt 32 (∑ i ∈ s, f i) := by
  induction s using Finset.cons_induction with
  | empty => rfl
  | cons a s ha ih => rw [Finset.sum_cons, Finset.sum_cons, ih, BitVec.ofInt_add]

/-- An integer reduction over every axis of an array of words of integers is the word of the integers' sum. -/
theorem reduce_words {s : Shape} {axes : List (Fin s.rank)} (src : IVec s 32) (f : s.Idx → ℤ)
    (hf : src = fun i => BitVec.ofInt 32 (f i)) (h : s.Reduces axes S1) (hacc : (0#32 : BitVec 32) = IKind.add.neutral)
    (j : S1.Idx) : multiReductionI .add axes S1 src 0#32 h hacc j = BitVec.ofInt 32 (∑ i, f i) := by
  rw [multiReductionI_eq_reduceFold, hf]
  show reduceFold h (· + ·) (0#32 : BitVec 32) (fun i => BitVec.ofInt 32 (f i)) j = _
  rw [reduceFold_add_eq_sum, show (0#32 : BitVec 32) = 0 from rfl, zero_add, sum_ofInt]
  congr 1
  rw [Finset.filter_true_of_mem fun i _ => funext fun b => Fin.ext (by
    have h1 := (h.drop i b).isLt; have h2 := (j b).isLt
    have h3 : S1.size b = 1 := by match b with | ⟨0, _⟩ => rfl
    omega)]

/-! ## The exponents and the mantissas of a batch -/

section Batch

variable (x : Vec Ideal S1x512x512 .f32) (b : Vec Ideal S1x512x512 .i32)

/-- The indicator bit that the kernel reads from an indicator word: whether the word is not zero. -/
def bit (w : BitVec 32) : BitVec 1 := IntOp.cmpi .ne w 0#32

/-- The kernel's clamped and masked array is, element by element, the scaled value. -/
theorem pay2_apply (k : S512x512.Idx) :
    k0_pay2 (F := Ideal) x b k = scaled (bit (b (Shape.reshapeEquiv shapeCasts_S1x512x512_S512x512 k)))
      (x (Shape.reshapeEquiv shapeCasts_S1x512x512_S512x512 k)) := by
  unfold k0_pay2
  rw [shapeCast_self]
  rfl

variable {x b} {l v : S512x512.Idx → ℝ} (hv : ∀ k, k0_pay2 (F := Ideal) x b k = (v k : EReal)) (h : ∀ k, Agree (l k) (v k))

include hv h

/-- The exponent words of the batch. -/
theorem pay3_eq : k0_pay3 (F := Ideal) x b = fun k => BitVec.ofInt 32 (expo (v k) + 127) := by
  funext k
  rw [← (h k).word, ← hv k]
  rfl

/-- The sum of the exponent words. -/
theorem pay4_eq (hp : ∀ a, (![0, 0, 0] : Fin 3 → ℕ) a < S1x1x1.size a) :
    extractAt ![0, 0, 0] (k0_pay4 (F := Ideal) x b) hp = BitVec.ofInt 32 (∑ k, (expo (v k) + 127)) := by
  unfold k0_pay4
  rw [pay3_eq hv h]
  refine (reduce_words (shapeCast S1x512x512 (fun k => BitVec.ofInt 32 (expo (v k) + 127)) shapeCasts_S512x512_S1x512x512)
    (fun j => expo (v (Shape.reshapeEquiv shapeCasts_S512x512_S1x512x512 j)) + 127) rfl reduces_S1x512x512_S1 rfl
    (Shape.reshapeEquiv shapeCasts_S1_S1x1x1 fun a => ⟨(![0, 0, 0] : Fin 3 → ℕ) a, hp a⟩)).trans ?_
  rw [Equiv.sum_comp (Shape.reshapeEquiv shapeCasts_S512x512_S1x512x512) fun k => expo (v k) + 127]

/-- The mantissas, as an array of positive reals. -/
theorem mantissas :
    Positive (mulf (F := Ideal) (k0_pay2 x b) (exp2 (sitofp .f32 (subi (broadcast S512x512 127#32) (k0_pay3 (F := Ideal) x b)))))
      (∑ k, Real.log (mant (v k))) := by
  refine ⟨fun k => mant (v k), fun k => ?_, fun k => (h k).mant_pos, rfl⟩
  rw [← (h k).mantissa, ← hv k, pay3_eq hv h]
  rfl

/-- After three halvings. -/
theorem pay5_positive : Positive (k0_pay5 (F := Ideal) x b) (∑ k, Real.log (mant (v k))) :=
  ((((mantissas hv h).reshape shapeCasts_S512x512_S16x32x512).halve (n := 16) slices_S16x32x512_o0_0_0_S16x16x512
    slices_S16x32x512_o0_16_0_S16x16x512).halve (n := 8) slices_S16x16x512_o0_0_0_S16x8x512
    slices_S16x16x512_o0_8_0_S16x8x512).halve (n := 4) slices_S16x8x512_o0_0_0_S16x4x512 slices_S16x8x512_o0_4_0_S16x4x512

/-- The array after all five halvings, from the two slices that the fifth takes up. -/
def product (u w : FVec Ideal S16x2x512 .f32) : FVec Ideal S16x1x512 .f32 :=
  mulf (extractStridedSlice S16x1x512 ![0, 0, 0] (mulf u w) slices_S16x2x512_o0_0_0_S16x1x512)
    (extractStridedSlice S16x1x512 ![0, 1, 0] (mulf u w) slices_S16x2x512_o0_1_0_S16x1x512)

/-- It is positive, with the mantissas' sum of logarithms. -/
theorem product_positive :
    Positive (product (k0_pay6 (F := Ideal) x b) (k0_pay7 x b)) (∑ k, Real.log (mant (v k))) :=
  ((pay5_positive hv h).halve (n := 2) slices_S16x4x512_o0_0_0_S16x2x512 slices_S16x4x512_o0_2_0_S16x2x512).halve
    (n := 1) slices_S16x2x512_o0_0_0_S16x1x512 slices_S16x2x512_o0_1_0_S16x1x512

/-- The sum of the logarithms of the products is the mantissas' sum of logarithms. -/
theorem log_sum (hp : ∀ a, (![0, 0, 0] : Fin 3 → ℕ) a < S1x1x1.size a) :
    extractAt ![0, 0, 0] (shapeCast S1x1x1 (multiReduction .add [1, 2] S1
      (shapeCast S1x16x512 (log (shapeCast S16x512 (product (k0_pay6 (F := Ideal) x b) (k0_pay7 x b))
        shapeCasts_S16x1x512_S16x512)) shapeCasts_S16x512_S1x16x512)
      0x00000000#32 reduces_S1x16x512_S1 (.inl rfl) rfl) shapeCasts_S1_S1x1x1) hp = ((∑ k, Real.log (mant (v k)) : ℝ) : EReal) :=
  (Ideal.multiReduction_add_total _ _ reduces_S1x16x512_S1 (fun a => by match a with | ⟨0, _⟩ => rfl) (.inl rfl) rfl
    (Shape.reshapeEquiv shapeCasts_S1_S1x1x1 fun a => ⟨(![0, 0, 0] : Fin 3 → ℕ) a, hp a⟩)).trans
    (((product_positive hv h).reshape shapeCasts_S16x1x512_S16x512).reshape shapeCasts_S16x512_S1x16x512).sum_log

omit hv in
/-- The integer part of the result: the exponents' sum less 64 for each position, with no overflow. -/
theorem exponents : (BitVec.ofInt 32 (∑ k, (expo (v k) + 127)) - 50069504#32).toInt = ∑ k, (expo (v k) - 64) := by
  have hcard : (Finset.univ : Finset S512x512.Idx).card = 262144 := by
    rw [Finset.card_univ, Shape.card_idx]; rfl
  have e : ∑ k, (expo (v k) + 127) = ∑ k, (expo (v k) - 64) + 50069504 := by
    rw [Finset.sum_add_distrib, Finset.sum_sub_distrib, Finset.sum_const, Finset.sum_const, hcard]
    norm_num; ring
  have hlo : -69206016 ≤ ∑ k, (expo (v k) - 64) := by
    have := Finset.card_nsmul_le_sum Finset.univ (fun k => expo (v k) - 64) (-264) fun k _ => by
      have := (h k).expo_bounds; omega
    rw [hcard] at this; norm_num at this ⊢; exact this
  have hhi : ∑ k, (expo (v k) - 64) ≤ 88080384 := by
    have := Finset.sum_le_card_nsmul Finset.univ (fun k => expo (v k) - 64) 336 fun k _ => by
      have := (h k).expo_bounds; omega
    rw [hcard] at this; norm_num at this ⊢; exact this
  generalize ∑ k, (expo (v k) - 64) = n at e hlo hhi ⊢
  rw [e]
  have hw : (BitVec.ofInt 32 (n + 50069504)).toInt = n + 50069504 := by
    rw [BitVec.toInt_ofInt]
    exact Int.bmod_eq_of_le (by norm_num; omega) (by norm_num; omega)
  rw [BitVec.toInt_sub, hw, show (50069504#32 : BitVec 32).toInt = 50069504 from rfl, add_sub_cancel_right]
  exact Int.bmod_eq_of_le (by norm_num; omega) (by norm_num; omega)

/-- The number that the body stores is the sum of the losses. -/
theorem pay1_eq (hp : ∀ a, (![0, 0, 0] : Fin 3 → ℕ) a < S1x1x1.size a) :
    k0_pay1 (F := Ideal) (extractAt ![0, 0, 0] (k0_pay4 (F := Ideal) x b) hp) (k0_pay6 x b) (k0_pay7 x b)
      = ((∑ k, l k : ℝ) : EReal) := by
  have hsum : ∑ k, l k = -(Real.log 2 * ((∑ k, (expo (v k) - 64) : ℤ) : ℝ) + ∑ k, Real.log (mant (v k))) := by
    rw [Finset.sum_congr rfl fun k _ => (h k).loss_eq, Finset.sum_neg_distrib, Finset.sum_add_distrib, ← Finset.mul_sum]
    push_cast
    rfl
  rw [hsum, pay4_eq hv h hp]
  have hr : k0_pay1 (F := Ideal) (BitVec.ofInt 32 (∑ k, (expo (v k) + 127))) (k0_pay6 x b) (k0_pay7 x b)
      = Ideal.ofBits .f32 0x00000000#32
        - (((Real.log 2 : ℝ) : EReal) * (((BitVec.ofInt 32 (∑ k, (expo (v k) + 127)) - 50069504#32).toInt : ℝ) : EReal)
          + ((∑ k, Real.log (mant (v k)) : ℝ) : EReal)) := by
    rw [← log_sum hv h inpos_S1x1x1_p0_0_0]
    rfl
  rw [hr, exponents h, Ideal.ofBits_zero_f32, ← EReal.coe_mul, ← EReal.coe_add, zero_sub, EReal.coe_neg]

end Batch

/-- ONE BATCH: what the body stores, from confidences of at most the greatest finite float32, is the sum of the
    reference's losses over the block. -/
theorem block (x : Vec Ideal S1x512x512 .f32) (b : Vec Ideal S1x512x512 .i32)
    (hx : ∀ i, bit (b i) = 1#1 → x i ≤ Ideal.ofBits .f32 0x7F7FFFFF#32) (hp : ∀ a, (![0, 0, 0] : Fin 3 → ℕ) a < S1x1x1.size a) :
    k0_pay1 (F := Ideal) (extractAt ![0, 0, 0] (k0_pay4 (F := Ideal) x b) hp) (k0_pay6 x b) (k0_pay7 x b)
      = ∑ i, loss (bit (b i)) (x i) := by
  have hel := fun i => element (bit (b i)) (x i) (hx i)
  choose l v hl hv h using hel
  rw [pay1_eq (l := fun k => l (Shape.reshapeEquiv shapeCasts_S1x512x512_S512x512 k))
    (v := fun k => v (Shape.reshapeEquiv shapeCasts_S1x512x512_S512x512 k))
    (fun k => (pay2_apply x b k).trans (hv _)) (fun k => h _) hp,
    Equiv.sum_comp (Shape.reshapeEquiv shapeCasts_S1x512x512_S512x512) l]
  simp only [hl]
  exact map_sum (⟨⟨(↑), EReal.coe_zero⟩, EReal.coe_add⟩ : ℝ →+ EReal) _ _

end Cert.Proof

end
-- ==== Proof.Value.Total.lean ====
/-
  The number that both programs compute for one batch: the sum of the losses over its positions. And what the
  precondition says of the confidences.
-/
module

public import proofs.«01_k».proof.Proof.Value.Element
public import proofs.«01_k».proof.Proof.Gen.Pre_finite
public import Idealize.ShloMosaic.Lib.Pointwise.Index
public import Idealize.ShloMosaic.Lib.Pipeline.Value
public import Idealize.ShloMosaic.Lib.ReduceAll

@[expose] public section

noncomputable section

namespace Cert.Proof

open Cert.Pre_finite Cert.Pre_finite.Gen Idealize.ShloMosaic

/-- The sum of the losses of batch `n`. -/
def total (q : IVec S32x512x512 1) (p : FVec Ideal S32x512x512x1 .f32) (n : Fin 32) : EReal :=
  ∑ r : Fin 512, ∑ k : Fin 512, loss (q (ix3 n r k)) (p (ix4 n r k 0))

/-- The precondition: every confidence at a positive position is at most the greatest finite float32. -/
theorem finite_le [Facts] (q : IVec S32x512x512 1) (p : FVec Ideal S32x512x512x1 .f32)
    (h : fn (F := Ideal) q p = fun _ => 1#1) (n : Fin 32) (r k : Fin 512) (hq : q (ix3 n r k) = 1#1) :
    p (ix4 n r k 0) ≤ Ideal.ofBits .f32 0x7F7FFFFF#32 := by
  haveI : Subsingleton S_.Idx := ⟨fun a b => funext fun k => k.elim0⟩
  have hi := Host.reduce_andi_all _ _ _ _ (fun k => k.elim0) (congrFun h fun k => k.elim0) (ix4 n r k 0)
  have hb : broadcastInDim S32x512x512x1 ![0, 1, 2] bcast_S32x512x512_S32x512x512x1_0_1_2 q (ix4 n r k 0) = q (ix3 n r k) := by
    rw [broadcastInDim_apply]
    intro a
    fin_cases a <;> rfl
  have h1 : Ideal.cmp .ole (p (ix4 n r k 0)) (Ideal.ofBits .f32 0x7F7FFFFF#32)
      ||| ~~~(broadcastInDim S32x512x512x1 ![0, 1, 2] bcast_S32x512x512_S32x512x512x1_0_1_2 q (ix4 n r k 0)) = 1#1 := hi
  rw [hb, hq] at h1
  by_contra hc
  have h0 : Ideal.cmp .ole (p (ix4 n r k 0)) (Ideal.ofBits .f32 0x7F7FFFFF#32) = 0#1 := by
    unfold Ideal.cmp
    simp [hc]
  rw [h0] at h1
  exact absurd h1 (by decide)

end Cert.Proof

end
-- ==== Proof.Value.Run.lean ====
/-
  The kernel's run. Each grid point stages one batch, stores the batch's sum of losses and writes it to its own entry of
  the result array, so the array ends holding the sum of losses of every batch; the reshape after the launch copies it
  to the result.
-/
module

public import proofs.«01_k».proof.Proof.Value.Block
public import proofs.«01_k».proof.Proof.Value.Total
public import proofs.«01_k».proof.Proof.Gen.KernelIdeal.Frame
public import Idealize.ShloMosaic.Lib.Pipeline.Value
public import Idealize.ShloMosaic.Lib.StableHlo.Run
public import Idealize.ShloMosaic.Lib.Pointwise

@[expose] public section

noncomputable section

namespace Cert.Proof

open Cert.KernelIdeal Cert.KernelIdeal.Gen Idealize.ShloMosaic Idealize.ShloMosaic.TcCoe Idealize.SL.Sem
open Idealize.ShloMosaic.Pipeline (Dat)

/-! ## What the body leaves in the result's staging buffer -/

theorem zeros3 : (![0, 0, 0] : Fin 3 → ℕ) = fun _ => 0 := funext fun a => by fin_cases a <;> rfl

/-- The staging buffer ends holding the number that `block` describes. -/
theorem staged (c : Dev nD) (i : grid0.Coords) (a1 : Memref sig .tc .vmem S1x512x512 .i32) (h1 : a1.IsWhole)
    (a2 : Memref sig .tc .vmem S1x512x512 .f32) (h2 : a2.IsWhole) (a3 : Memref sig .tc .smem S1x1x1 .f32) (h3 : a3.IsWhole)
    (b : Vec Ideal S1x512x512 .i32) (x : Vec Ideal S1x512x512 .f32) :
    out0_A_2 (F := Ideal) c i a1 h1 a2 h2 a3 h3 b x = fun _ =>
      k0_pay1 (F := Ideal) (extractAt ![0, 0, 0] (k0_pay4 (F := Ideal) x b) inpos_S1x1x1_p0_0_0) (k0_pay6 x b) (k0_pay7 x b) := by
  have hb : View.readAt (Elt Ideal) a1.view (Rect.unit ![0, 0, 0] S1x512x512.size inb_S1x512x512_S1x512x512_0_0_0).toLoadRect
      (h1.unread b) = b := by
    rw [View.readAt_eq_ld, h1.read_unread, View.ld_unit_zero zeros3]
  have hx : View.readAt (Elt Ideal) a2.view (Rect.unit ![0, 0, 0] S1x512x512.size inb_S1x512x512_S1x512x512_0_0_0).toLoadRect
      (h2.unread x) = x := by
    rw [View.readAt_eq_ld, h2.read_unread, View.ld_unit_zero zeros3]
  unfold out0_A_2 kernelRun0_A
  dsimp only
  unfold kernelRun0_A.sl.v26 kernelRun0_A.sl.r kernelRun0_A.sl.r_1
  rw [View.read_writes_junk_eq_canon]
  refine (View.canon_unit_zero zeros3 _ _).trans ?_
  rw [hb, hx]
  rfl

/-! ## The arrays that the launch finds -/

variable (m : (ℓ : Loc nD τ sig) → Buf (Elt Ideal) ℓ) (ρ : Dev nD → PrngReg)

/-- The indicators and the confidences at launch. -/
abbrev ind (c : Dev nD) : IVec S32x512x512 1 := m ((c : Thread nD τ).loc main_arg0)
abbrev conf (c : Dev nD) : FVec Ideal S32x512x512x1 .f32 := m ((c : Thread nD τ).loc main_arg1)

/-- The indicators converted to words. -/
theorem words_eq (c : Dev nD) : V m c main_v1 = extui 32 (ind m c) natLt_1_32 := by
  unfold V V0 hostOps0
  simp only [List.flatten_cons, List.flatten_nil, List.append_nil]
  after_results

/-- The confidences without their last axis. -/
theorem confs_eq (c : Dev nD) : V m c main_v0 = shapeCast S32x512x512 (conf m c) shapeCasts_S32x512x512x1_S32x512x512 := by
  unfold V V0 hostOps0
  simp only [List.flatten_cons, List.flatten_nil, List.append_nil]
  after_results
  rfl

/-- The bit that the kernel reads from a converted indicator is the indicator. -/
theorem bit_extui (w : BitVec 1) : bit (w.setWidth 32) = w := by
  decide +revert

/-! ## One batch's blocks -/

/-- The grid point of a batch, and the batch of a grid point. -/
abbrev batch (t : Fin cfg0.N) : Fin 32 := ⟨t.val, t.isLt.trans_eq N_0⟩

/-- Every window's block index at a grid point is the batch. -/
theorem windows : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)

/-- Where the indicators' block lies. -/
theorem place0 (t : Fin cfg0.N) (a : Fin 1) (r k : Fin 512) :
    ((cfg0.win 0).blk t).view.emb (ix3 a r k) = ix3 (batch t) r k := by
  obtain ⟨⟨e0, e1, e2⟩, -, -⟩ := windows t
  funext b; apply Fin.ext
  match b with
  | ⟨0, _⟩ => show win0_0.index t 0 * 1 + 1 * a.val = t.val; omega
  | ⟨1, _⟩ => show win0_0.index t 1 * 512 + 1 * r.val = r.val; omega
  | ⟨2, _⟩ => show win0_0.index t 2 * 512 + 1 * k.val = k.val; omega

/-- Where the confidences' block lies. -/
theorem place1 (t : Fin cfg0.N) (a : Fin 1) (r k : Fin 512) :
    ((cfg0.win 1).blk t).view.emb (ix3 a r k) = ix3 (batch t) r k := by
  obtain ⟨-, ⟨e0, e1, e2⟩, -⟩ := windows t
  funext b; apply Fin.ext
  match b with
  | ⟨0, _⟩ => show win0_1.index t 0 * 1 + 1 * a.val = t.val; omega
  | ⟨1, _⟩ => show win0_1.index t 1 * 512 + 1 * r.val = r.val; omega
  | ⟨2, _⟩ => show win0_1.index t 2 * 512 + 1 * k.val = k.val; omega

/-- Where the result's block lies. -/
theorem place2 (t : Fin cfg0.N) (y : S1x1x1.Idx) :
    ((cfg0.win 2).blk t).view.emb y = ix3 (batch t) 0 0 := by
  obtain ⟨-, -, ⟨e0, e1, e2⟩⟩ := windows t
  have h0 := (y 0).isLt
  have h1 := (y 1).isLt
  have h2 := (y 2).isLt
  funext b; apply Fin.ext
  match b with
  | ⟨0, _⟩ => show win0_2.index t 0 * 1 + 1 * (y 0).val = t.val; change (y 0).val < 1 at h0; omega
  | ⟨1, _⟩ => show win0_2.index t 1 * 1 + 1 * (y 1).val = 0; change (y 1).val < 1 at h1; omega
  | ⟨2, _⟩ => show win0_2.index t 2 * 1 + 1 * (y 2).val = 0; change (y 2).val < 1 at h2; omega

/-- The two blocks that a grid point stages. -/
def indBlk (c : Dev nD) (t : Fin cfg0.N) : Vec Ideal S1x512x512 .i32 := iblk m c 0 t
def confBlk (c : Dev nD) (t : Fin cfg0.N) : Vec Ideal S1x512x512 .f32 := iblk m c 1 t

/-- The staged indicator word at a position. -/
theorem indBlk_apply (c : Dev nD) (t : Fin cfg0.N) (a : Fin 1) (r k : Fin 512) :
    indBlk m c t (ix3 a r k) = (ind m c (ix3 (batch t) r k)).setWidth 32 := by
  show V m c main_v1 (((cfg0.win 0).blk t).view.emb (ix3 a r k)) = _
  rw [place0, words_eq]
  rfl

/-- The staged confidence at a position. -/
theorem confBlk_apply (c : Dev nD) (t : Fin cfg0.N) (a : Fin 1) (r k : Fin 512) :
    confBlk m c t (ix3 a r k) = conf m c (ix4 (batch t) r k 0) := by
  show V m c main_v0 (((cfg0.win 1).blk t).view.emb (ix3 a r k)) = _
  rw [place1, confs_eq]
  pointwise

/-! ## The result array -/

/-- What the result array is shown to hold: each batch's sum of losses. -/
def sums (c : Dev nD) : Buf (Elt Ideal) ((c : Thread nD τ).loc main_v2) :=
  fun i : S32x1x1.Idx => total (ind m c) (conf m c) (i 0)

/-- Every entry of the result array is some grid point's. -/
theorem covered (i : S32x1x1.Idx) : ∃ t : Fin cfg0.N, (cfg0.win 2).flush t = true ∧ i ∈ ((cfg0.win 2).blk t).view.set := by
  have h0 : (i 0 : ℕ) < 32 := (i 0).isLt
  let t : Fin cfg0.N := ⟨(i 0).val, h0.trans_eq N_0.symm⟩
  have hi : ((cfg0.win 2).blk t).view.emb (ix3 (0 : Fin 1) (0 : Fin 1) (0 : Fin 1) : S1x1x1.Idx) = i := by
    rw [place2, eq_ix3 i]
    exact congrArg₂ (ix3 (i 0)) (Subsingleton.elim (α := Fin 1) _ _) (Subsingleton.elim (α := Fin 1) _ _)
  exact ⟨t, flush0_2 t, hi ▸ View.emb_mem_set _ _⟩

variable (hfin : ∀ c (n : Fin 32) (r k : Fin 512), ind m c (ix3 n r k) = 1#1 →
  conf m c (ix4 n r k 0) ≤ Ideal.ofBits .f32 0x7F7FFFFF#32)

include hfin

/-- What a grid point writes back is its batch's sum of losses. -/
theorem flushed_eq (c : Dev nD) (t : Fin cfg0.N) :
    (dats m 0 c).flushed 2 t = ((cfg0.win 2).blk t).view.read (Elt Ideal) (sums m c) := by
  have hle : ∀ i, bit (indBlk m c t i) = 1#1 → confBlk m c t i ≤ Ideal.ofBits .f32 0x7F7FFFFF#32 := fun i => by
    rw [eq_ix3 i]
    intro hb
    exact (confBlk_apply m c t (i 0) (i 1) (i 2)).trans_le (hfin c _ _ _
      ((bit_extui _).symm.trans ((congrArg bit (indBlk_apply m c t (i 0) (i 1) (i 2))).symm.trans hb)))
  have hval : ∑ i, loss (bit (indBlk m c t i)) (confBlk m c t i) = total (ind m c) (conf m c) (batch t) := by
    rw [sum_idx3, Fin.sum_univ_one]
    simp only [indBlk_apply, confBlk_apply, bit_extui]
    rfl
  funext y
  show (cfg0.win 2).cut (grid0.coords t) ((dats m 0 c).after 2 t) y = sums m c (((cfg0.win 2).blk t).view.emb y)
  rw [after0_2, place2]
  unfold outsAt0
  rw [staged]
  exact (block (confBlk m c t) (indBlk m c t) hle _).trans hval

/-- The result array ends holding every batch's sum of losses. -/
theorem final (c : Dev nD) : (dats m 0 c).arrAt 2 cfg0.N = sums m c :=
  (dats m 0 c).arrAt_eq_of_cover 2 (sums m c) (fun t _ => flushed_eq m hfin c t) covered

/-- The buffer that the trailing reshape fills: the result array's entries as a vector. -/
theorem tail_eq (c : Dev nD) : Pipeline.afterTail₀ cfgs (dats m) 0 (V0 m) [hostOps1] c main_v3
    = fun i : S32.Idx => total (ind m c) (conf m c) (i 0) := by
  have hread : Pipeline.withArrays (cfgs 0).spec c (V0 m c) (fun w => (dats m 0 c).arrAt w (cfgs 0).N) (Proc.tc.devRef main_v2)
      = sums m c :=
    (Pipeline.withArrays_arr (cfgs 0).spec winFacts0.arr_inj c (V0 m c) (fun w => (dats m 0 c).arrAt w (cfgs 0).N) 2).trans
      (final m hfin c)
  unfold Pipeline.afterTail₀ hostOps1
  simp only [List.flatten_cons, List.flatten_nil, List.append_nil]
  after_results
  rw [hread]
  funext i
  show shapeCast S32 (sums m c) shapeCasts_S32x1x1_S32 i = _
  rw [eq_ix1 i]
  pointwise
  rfl

/-- The kernel's run: its result holds every batch's sum of losses, and its arguments are unchanged. -/
theorem kernel_run : θ_run (defs (F := Ideal)) (onTc (τ := τ) (main (F := Ideal))) ⟨m, fun _ => 0, ρ⟩ fun r => ∀ c : Dev nD,
    r.2.mem ((c : Thread nD τ).loc main_v3) = (fun i : S32.Idx => total (ind m c) (conf m c) (i 0))
    ∧ r.2.mem ((c : Thread nD τ).loc main_arg0) = m ((c : Thread nD τ).loc main_arg0)
    ∧ r.2.mem ((c : Thread nD τ).loc main_arg1) = m ((c : Thread nD τ).loc main_arg1) := by
  have hres := (θ_run (defs (F := Ideal)) (onTc (τ := τ) (main (F := Ideal))) (s₀ m ρ)).mono (fun _ h c =>
    ((h c).2 main_v3 (Pipeline.mem_restRefs_of main_v3 (by decide) (by decide))).trans (tail_eq m hfin c)) (run_main m ρ)
  exact (θ_run _ _ _).mono (fun _ h c => ⟨h.1 c, h.2 c⟩) (θ_run_and hres (unchanged m ρ))

end Cert.Proof

end
-- ==== Proof.Value.Reference.lean ====
/-
  The reference's run: each entry of its result is the batch's sum of losses.
-/
module

public import proofs.«01_k».proof.Proof.Value.Total
public import proofs.«01_k».proof.Proof.Gen.ReferenceIdeal.Run
public import Idealize.ShloMosaic.Lib.IdealHost
public import Idealize.ShloMosaic.Lib.Pipeline.Value
public import Idealize.ShloMosaic.Lib.Quiescent

@[expose] public section

noncomputable section

namespace Cert.Proof.Reference

open Cert.ReferenceIdeal Cert.ReferenceIdeal.Gen Idealize.ShloMosaic Idealize.ShloMosaic.TcCoe Idealize.SL.Sem

/-- The array of losses that the reference sums. -/
def lossArray (q : IVec S32x512x512 1) (p : FVec Ideal S32x512x512x1 .f32) : FVec Ideal S32x512x512x1 .f32 :=
  select (broadcastInDim S32x512x512x1 ![0, 1, 2] bcast_S32x512x512_S32x512x512x1_0_1_2 q)
    (Host.negf (maximumf (broadcastInDim S32x512x512x1 ![] bcast_S_S32x512x512x1 (id (constant S_ .f32 0xC2C80000#32))) (Host.log p)))
    (broadcastInDim S32x512x512x1 ![] bcast_S_S32x512x512x1 (id (constant S_ .f32 0x00000000#32)))

theorem lossArray_apply (q : IVec S32x512x512 1) (p : FVec Ideal S32x512x512x1 .f32) (n : Fin 32) (r k : Fin 512) (u : Fin 1) :
    lossArray q p (ix4 n r k u) = loss (q (ix3 n r k)) (p (ix4 n r k 0)) := by
  obtain rfl : u = 0 := Subsingleton.elim _ _
  have hq : broadcastInDim S32x512x512x1 ![0, 1, 2] bcast_S32x512x512_S32x512x512x1_0_1_2 q (ix4 n r k 0) = q (ix3 n r k) := by
    rw [broadcastInDim_apply]
    intro a
    fin_cases a <;> rfl
  show Scalar.select (broadcastInDim S32x512x512x1 ![0, 1, 2] bcast_S32x512x512_S32x512x512x1_0_1_2 q (ix4 n r k 0)) _ _ = _
  rw [hq]
  rfl

/-- The reference's sum over the last three axes, entry by entry. -/
theorem sum_batch (x : FVec Ideal S32x512x512x1 .f32) (n : Fin 32) :
    Host.reduceAdd x (constant S_ .f32 0x00000000#32) reducesTo_S32x512x512x1_S32_d1_2_3 h_S_ (ix1 n)
      = ∑ r : Fin 512, ∑ k : Fin 512, x (ix4 n r k 0) := by
  have hd : ∀ (a : Fin 32) (r k : Fin 512) (u : Fin 1), reducesTo_S32x512x512x1_S32_d1_2_3.drop (ix4 a r k u) = ix1 a :=
    fun a r k u => funext fun b => by match b with | ⟨0, _⟩ => rfl
  have hn : ∀ a : Fin 32, (ix1 a : S32.Idx) = ix1 n ↔ a = n := fun a => ⟨fun h => congrFun h 0, fun h => h ▸ rfl⟩
  show Ideal.ofBits .f32 0x00000000#32 + ∑ i with reducesTo_S32x512x512x1_S32_d1_2_3.drop i = ix1 n, x i = _
  rw [Ideal.ofBits_zero_f32, zero_add, Finset.sum_filter, sum_idx4]
  simp only [hd, hn, Fin.sum_univ_one]
  rw [Finset.sum_eq_single n (fun a _ h => by simp [h]) (fun h => absurd (Finset.mem_univ n) h)]
  simp

variable (m : (ℓ : Loc nD τ sig) → Buf (Elt Ideal) ℓ) (ρ : Dev nD → PrngReg)

/-- The reference's run: its result holds every batch's sum of losses, and its arguments are unchanged. -/
theorem reference_run : θ_run (defs (F := Ideal)) (onTc (τ := τ) (main (F := Ideal))) ⟨m, fun _ => 0, ρ⟩ fun r => ∀ c : Dev nD,
    r.2.mem ((c : Thread nD τ).loc main_v5)
      = (fun i : S32.Idx => total (m ((c : Thread nD τ).loc main_arg0)) (m ((c : Thread nD τ).loc main_arg1)) (i 0))
    ∧ r.2.mem ((c : Thread nD τ).loc main_arg0) = m ((c : Thread nD τ).loc main_arg0)
    ∧ r.2.mem ((c : Thread nD τ).loc main_arg1) = m ((c : Thread nD τ).loc main_arg1) := by
  refine (θ_run _ _ _).mono (fun r h c => ⟨(h c).1.trans ?_, (h c).2⟩) (Cert.ReferenceIdeal.Value.run m ρ)
  funext i
  rw [eq_ix1 i]
  refine (sum_batch (lossArray _ _) (i 0)).trans ?_
  exact Finset.sum_congr rfl fun r _ => Finset.sum_congr rfl fun k _ => lossArray_apply _ _ (i 0) r k 0

/-- The reference's frame: its arguments are unchanged and every semaphore counter ends at zero, there being none. -/
theorem reference_frame : θ_run (defs (F := Ideal)) (onTc (τ := τ) (main (F := Ideal))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run _ _ _).mono (fun r h => ⟨fun c => (h c).2, sem_eq_zero_of_no_sems (by decide) _⟩) (Cert.ReferenceIdeal.Value.run m ρ)

end Cert.Proof.Reference

end
-- ==== Proof.lean ====
/-
  The proof of `Cert.Claim` (proofs.«01_k».proof.Defs). The kernel, v01 as it was written, the kernel with its constants
  named and the reference run and leave their arguments as they were. Each named constant rounds to the kernel's
  literal. From equal arguments, whose confidences at positive positions are at most the greatest finite float32, the
  kernel and the reference end with the same result: each batch's sum of losses (`Cert.Proof.total`). That v01's own bit
  reads are equal to what replaces them is in `Value/BitReads.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Original
public import proofs.«01_k».proof.Proof.Gen.Original.Skeleton
public import proofs.«01_k».proof.Proof.Gen.Original.Launch
public import proofs.«01_k».proof.Proof.Gen.Original.Points
public import proofs.«01_k».proof.Proof.Gen.Original.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Value.BitReads
public import proofs.«01_k».proof.Proof.Value.Run
public import proofs.«01_k».proof.Proof.Value.Reference
public import Idealize.ShloMosaic.Adequacy
public import Idealize.ShloMosaic.Init

@[expose] public section

noncomputable section

namespace Cert.Proof

open Idealize.ShloMosaic Idealize.SL.Sem

/-- The two named constants round to the kernel's literals. -/
theorem constants : Cert.preserves_Kernel_KernelIdeal :=
  ⟨IdealRules.named_const.statement Cert.KernelIdeal.κ "inv_ln2" .f32 0x3FB8AA3B#32 _ rfl,
    IdealRules.named_const.statement Cert.KernelIdeal.κ "ln2" .f32 0x3F317218#32 _ rfl⟩

/-- The kernel and the reference compute the same sums. -/
theorem same_sums : Cert.algebraic_KernelIdeal_ReferenceIdeal_pre_finite := by
  intro m g m' g' hpre hargs
  have hfin : ∀ c (n : Fin 32) (r k : Fin 512), ind m c (ix3 n r k) = 1#1 →
      conf m c (ix4 n r k 0) ≤ Ideal.ofBits .f32 0x7F7FFFFF#32 := fun c n r k => finite_le _ _ (hpre c) n r k
  refine ⟨fun c => (fun i : Cert.KernelIdeal.S32.Idx => total (ind m c) (conf m c) (i 0)), kernel_run m g hfin,
    (θ_run _ _ _).mono (fun r h c => ⟨(h c).1.trans ?_, (h c).2⟩) (Reference.reference_run m' g')⟩
  rw [(hargs c).1, (hargs c).2]

theorem claim : Cert.Claim :=
  ⟨Cert.Kernel.Gen.facts, Cert.Original.Gen.facts, Cert.KernelIdeal.Gen.facts, Cert.ReferenceIdeal.Gen.facts, Cert.Pre_finite.Gen.facts,
    fun m g _ => Cert.Kernel.Gen.frame m g, fun m g _ => Cert.Original.Gen.frame m g,
    fun m g _ => Cert.KernelIdeal.Gen.frame m g, fun m g _ => Cert.KernelIdeal.Gen.frame m g, fun m g _ => Reference.reference_frame m g,
    fun m g _ => Reference.reference_frame m g, constants, same_sums⟩

end Cert.Proof

end
